-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x100x32 : Shape := ⟨3, ![16384, 100, 32]⟩
abbrev S100x32 : Shape := ⟨2, ![100, 32]⟩
abbrev S16384x3200 : Shape := ⟨2, ![16384, 3200]⟩
abbrev S1x3200 : Shape := ⟨2, ![1, 3200]⟩
abbrev S512x3200 : Shape := ⟨2, ![512, 3200]⟩

abbrev nBuf : Space → Nat
  | .hbm => 6
  | .vmem => 5
  | .smem => 0
  | _ => 0

abbrev bufTy : (tb : Table) → Fin (tcTables nBuf tb) → BufTy
  | .hbm, ⟨0, _⟩ => ⟨S16384x100x32, .f32⟩
  | .hbm, ⟨1, _⟩ => ⟨S100x32, .f32⟩
  | .hbm, ⟨2, _⟩ => ⟨S16384x3200, .f32⟩
  | .hbm, ⟨3, _⟩ => ⟨S1x3200, .f32⟩
  | .hbm, ⟨4, _⟩ => ⟨S16384x3200, .f32⟩
  | .hbm, ⟨5, _⟩ => ⟨S16384x100x32, .f32⟩
  | .local _ .vmem, ⟨0, _⟩ => ⟨S512x3200, .f32⟩
  | .local _ .vmem, ⟨1, _⟩ => ⟨S512x3200, .f32⟩
  | .local _ .vmem, ⟨2, _⟩ => ⟨S1x3200, .f32⟩
  | .local _ .vmem, ⟨3, _⟩ => ⟨S512x3200, .f32⟩
  | .local _ .vmem, ⟨4, _⟩ => ⟨S512x3200, .f32⟩
  | _, _ => ⟨S16384x100x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16384x100x32 : Shape := ⟨3, ![16384, 100, 32]⟩
abbrev S100x32 : Shape := ⟨2, ![100, 32]⟩
abbrev S100 : Shape := ⟨1, ![100]⟩
abbrev S_ : Shape := ⟨0, ![]⟩
abbrev S100x1 : Shape := ⟨2, ![100, 1]⟩
abbrev S1 : Shape := ⟨1, ![1]⟩
abbrev S1x1 : Shape := ⟨2, ![1, 1]⟩
abbrev S1x100x32 : Shape := ⟨3, ![1, 100, 32]⟩

abbrev nBuf : Space → Nat
  | .hbm => 29
  | .vmem => 0
  | .smem => 0
  | _ => 0

abbrev bufTy : (tb : Table) → Fin (tcTables nBuf tb) → BufTy
  | .hbm, ⟨0, _⟩ => ⟨S16384x100x32, .f32⟩
  | .hbm, ⟨1, _⟩ => ⟨S100x32, .f32⟩
  | .hbm, ⟨2, _⟩ => ⟨S100, .i32⟩
  | .hbm, ⟨3, _⟩ => ⟨S_, .i32⟩
  | .hbm, ⟨4, _⟩ => ⟨S100, .i32⟩
  | .hbm, ⟨5, _⟩ => ⟨S100, .i1⟩
  | .hbm, ⟨6, _⟩ => ⟨S_, .i32⟩
  | .hbm, ⟨7, _⟩ => ⟨S100, .i32⟩
  | .hbm, ⟨8, _⟩ => ⟨S100, .i32⟩
  | .hbm, ⟨9, _⟩ => ⟨S100, .i32⟩
  | .hbm, ⟨10, _⟩ => ⟨S100x1, .i32⟩
  | .hbm, ⟨11, _⟩ => ⟨S1, .i32⟩
  | .hbm, ⟨12, _⟩ => ⟨S_, .i32⟩
  | .hbm, ⟨13, _⟩ => ⟨S100x1, .i32⟩
  | .hbm, ⟨14, _⟩ => ⟨S100x1, .i1⟩
  | .hbm, ⟨15, _⟩ => ⟨S1x1, .i32⟩
  | .hbm, ⟨16, _⟩ => ⟨S100x1, .i32⟩
  | .hbm, ⟨17, _⟩ => ⟨S100x1, .i1⟩
  | .hbm, ⟨18, _⟩ => ⟨S100x1, .i1⟩
  | .hbm, ⟨19, _⟩ => ⟨S_, .i1⟩
  | .hbm, ⟨20, _⟩ => ⟨S100, .i1⟩
  | .hbm, ⟨21, _⟩ => ⟨S100x32, .f32⟩
  | .hbm, ⟨22, _⟩ => ⟨S100x32, .i1⟩
  | .hbm, ⟨23, _⟩ => ⟨S_, .f32⟩
  | .hbm, ⟨24, _⟩ => ⟨S100x32, .f32⟩
  | .hbm, ⟨25, _⟩ => ⟨S100x32, .f32⟩
  | .hbm, ⟨26, _⟩ => ⟨S1x100x32, .f32⟩
  | .hbm, ⟨27, _⟩ => ⟨S16384x100x32, .f32⟩
  | .hbm, ⟨28, _⟩ => ⟨S16384x100x32, .f32⟩
  | _, _ => ⟨S16384x100x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.KernelValue.lean ====
/-
  What the tiled kernel's result array holds after the run.

  The kernel lays the batch out as a matrix of 16384 rows of 3200 = 100 · 32 elements and the table as one such row,
  adds the row to every row of the matrix in 32 blocks of 512 rows, and lays the sum out as 16384 × 100 × 32 again.
  Here: what one block writes back is its part of the whole matrix `sumMat`; the blocks cover the matrix, so the
  region leaves `sumMat`; and the two layouts cancel, so element (b, f, d) of the result is element (b, f, d) of the
  batch plus element (f, d) of the table.
-/
module

public import proofs.«01_k».proof.Defs
public import proofs.«01_k».proof.Proof.Gen.KernelIdeal.Frame
public import Idealize.ShloMosaic.Lib.Pipeline.Value
public import Idealize.ShloMosaic.Lib.Pipeline.FrameSuffix
public import Idealize.ShloMosaic.Lib.StableHlo.Run

@[expose] public section

noncomputable section

namespace Cert.KernelIdeal.TiledSum

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Indices -/

/-- The table row's element below column `i 1` of a matrix index. -/
abbrev under (i : S16384x3200.Idx) : S1x3200.Idx := fun a => match a with
  | ⟨0, _⟩ => ⟨0, Nat.one_pos⟩
  | ⟨1, _⟩ => ⟨(i 1).val, (i 1).isLt⟩

/-- The matrix element at which element (b, f, d) of the batch lies: row `b`, column `32 f + d`. -/
abbrev flat (i : S16384x100x32.Idx) : S16384x3200.Idx := fun a => match a with
  | ⟨0, _⟩ => ⟨(i 0).val, (i 0).isLt⟩
  | ⟨1, _⟩ => ⟨(i 1).val * 32 + (i 2).val, by
      have h1 : (i 1).val < 100 := (i 1).isLt
      have h2 : (i 2).val < 32 := (i 2).isLt
      show (i 1).val * 32 + (i 2).val < 3200
      omega⟩

/-- The table's element (f, d) for element (b, f, d) of the batch. -/
abbrev feature (i : S16384x100x32.Idx) : S100x32.Idx := fun a => match a with
  | ⟨0, _⟩ => ⟨(i 1).val, (i 1).isLt⟩
  | ⟨1, _⟩ => ⟨(i 2).val, (i 2).isLt⟩

/-! ## The region -/

/-- The whole matrix plus the table's row on every row, of the matrix and the row as the region finds them. -/
def sumMat (c : Dev nD) : Buf (Elt F) ((c : Thread nD τ).loc main_v2) :=
  fun i : S16384x3200.Idx => FloatOps.addf (V m c main_v0 i) (V m c main_v1 (under i))

theorem zero_offsets : (![0, 0] : Fin 2 → Nat) = fun _ => 0 := funext fun a => by fin_cases a <;> rfl

/-- Block `t` of the batch matrix and block `t` of the result begin at row `512 t`, column 0; the table's block is always
    the whole row. -/
theorem block_index : ∀ t : Fin cfg0.N,
    win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- The body's payload at an element of the block: the batch block's element plus the row's element of its column. -/
theorem pay_apply (x : Vec F S512x3200 .f32) (y : Vec F S1x3200 .f32) (j : S512x3200.Idx) (k : S1x3200.Idx)
    (h0 : (k 0).val = 0) (h1 : (k 1).val = (j 1).val) : k0_pay1 x y j = FloatOps.addf (x j) (y k) := by
  unfold k0_pay1
  rw [shapeCast_self, shapeCast_self]
  show FloatOps.addf (x j) (broadcastTo S512x3200 y broadcasts_S1x3200_S512x3200 j) = _
  congr 1
  refine broadcastTo_apply y broadcasts_S1x3200_S512x3200 j k fun a => ?_
  fin_cases a
  · exact h0
  · exact h1

/-- What point `t` writes back is block `t` of `sumMat`. -/
theorem flushed_eq (c : Dev nD) (t : Fin cfg0.N) :
    (dats m 0 c).flushed 2 t = ((cfg0.win 2).blk t).view.read (Elt F) (sumMat m c) := by
  show (cfg0.win 2).cut (grid0.coords t) ((dats m 0 c).after 2 t) = _
  rw [after0_2]
  unfold out0_2
  rw [View.canon_unit_zero zero_offsets, View.ld_unit_zero zero_offsets, View.ld_unit_zero zero_offsets]
  obtain ⟨-, e21, -, -, e10, e11⟩ := block_index t
  funext j
  have hj1 : (j (1 : Fin 2)).val < 3200 := (j (1 : Fin 2)).isLt
  refine (pay_apply (iblk m c 0 t) (iblk m c 1 t) j (fun a => match a with
    | ⟨0, _⟩ => ⟨0, Nat.one_pos⟩ | ⟨1, _⟩ => ⟨(j (1 : Fin 2)).val, hj1⟩) rfl rfl).trans ?_
  show FloatOps.addf (V m c main_v0 (((cfg0.win 0).blk t).view.emb j)) (V m c main_v1 (((cfg0.win 1).blk t).view.emb _))
    = FloatOps.addf (V m c main_v0 (((cfg0.win 2).blk t).view.emb j)) (V m c main_v1 (under (((cfg0.win 2).blk t).view.emb j)))
  congr 2
  funext a
  refine Fin.ext ?_
  fin_cases a
  · show win0_1.index t (0 : Fin 2) * 1 + 1 * 0 = 0
    rw [e10]
  · show win0_1.index t (1 : Fin 2) * 3200 + 1 * (j (1 : Fin 2)).val = win0_2.index t (1 : Fin 2) * 3200 + 1 * (j (1 : Fin 2)).val
    rw [e11, e21]

/-- A matrix element is in block `t` iff its row is one of the 512 from `512 t` on. -/
theorem mem_block (t : Fin cfg0.N) (i : S16384x3200.Idx) :
    i ∈ ((cfg0.win 2).blk t).view.set ↔ t.val * 512 ≤ (i 0 : Nat) ∧ (i 0 : Nat) < t.val * 512 + 512 := by
  show i ∈ ((View.whole main_v2).slice (win0_2.rect t)).set ↔ _
  rw [View.set_slice_whole, Rect.mem_set_unit]
  obtain ⟨e0, e1, -⟩ := block_index t
  have hi : (i 1 : Nat) < 3200 := (i 1).isLt
  constructor
  · intro h
    have h0 : win0_2.index t (0 : Fin 2) * 512 ≤ (i 0 : Nat) ∧ (i 0 : Nat) < win0_2.index t (0 : Fin 2) * 512 + 512 := h 0
    rwa [e0] at h0
  · intro h a
    fin_cases a
    · show win0_2.index t (0 : Fin 2) * 512 ≤ (i 0 : Nat) ∧ (i 0 : Nat) < win0_2.index t (0 : Fin 2) * 512 + 512
      rwa [e0]
    · show win0_2.index t (1 : Fin 2) * 3200 ≤ (i 1 : Nat) ∧ (i 1 : Nat) < win0_2.index t (1 : Fin 2) * 3200 + 3200
      rewrite [e1, Nat.zero_mul, Nat.zero_add]
      exact ⟨Nat.zero_le _, hi⟩

/-- The 32 blocks cover the matrix: row `r` is in block `r / 512`. -/
theorem covered (i : S16384x3200.Idx) :
    ∃ t : Fin cfg0.N, (cfg0.win 2).flush t = true ∧ i ∈ ((cfg0.win 2).blk t).view.set := by
  have h0 : (i 0 : Nat) < 16384 := (i 0).isLt
  have hN : cfg0.N = 32 := N_0
  refine ⟨⟨(i 0 : Nat) / 512, by omega⟩, flush0_2 _, ?_⟩
  rw [mem_block]
  dsimp only
  omega

/-- The region leaves `sumMat` in its output array. -/
theorem region_result (c : Dev nD) : (dats m 0 c).arrAt 2 cfg0.N = sumMat m c :=
  (dats m 0 c).arrAt_eq_of_cover 2 (sumMat m c) (fun t _ => flushed_eq m c t) covered

/-! ## The layouts before and after the region -/

/-- The batch matrix at row `b`, column `32 f + d` is the batch at (b, f, d). -/
theorem batch_matrix (c : Dev nD) (i : S16384x100x32.Idx) :
    V m c main_v0 (flat i) = (m ((c : Thread nD τ).loc main_arg0) : S16384x100x32.Idx → F .f32) i := by
  have e : V m c main_v0 = shapeCast S16384x3200 (m ((c : Thread nD τ).loc main_arg0) : S16384x100x32.Idx → F .f32)
      shapeCasts_S16384x100x32_S16384x3200 := by
    unfold V V0
    simp only [List.flatten_cons, List.flatten_nil, List.append_nil]
    after_results <;> rfl
  rw [e]
  refine shapeCast_apply _ _ _ i ?_
  rw [Shape.rowMajor_val_three, Shape.rowMajor_val_two]
  show ((i 0).val * 100 + (i 1).val) * 32 + (i 2).val = (i 0).val * 3200 + ((i 1).val * 32 + (i 2).val)
  omega

/-- The table's row at column `32 f + d` is the table at (f, d). -/
theorem table_row (c : Dev nD) (i : S16384x100x32.Idx) :
    V m c main_v1 (under (flat i)) = (m ((c : Thread nD τ).loc main_arg1) : S100x32.Idx → F .f32) (feature i) := by
  have e : V m c main_v1 = shapeCast S1x3200 (m ((c : Thread nD τ).loc main_arg1) : S100x32.Idx → F .f32)
      shapeCasts_S100x32_S1x3200 := by
    unfold V V0
    simp only [List.flatten_cons, List.flatten_nil, List.append_nil]
    after_results <;> rfl
  rw [e]
  refine shapeCast_apply _ _ _ (feature i) ?_
  rw [Shape.rowMajor_val_two, Shape.rowMajor_val_two]
  show (i 1).val * 32 + (i 2).val = 0 * 3200 + ((i 1).val * 32 + (i 2).val)
  omega

/-- What the kernel's result array is shown to hold: at (b, f, d) the batch's element plus the table's element (f, d). -/
def embedded (c : Dev nD) : Buf (Elt F) ((c : Thread nD τ).loc main_v3) :=
  fun i : S16384x100x32.Idx => FloatOps.addf ((m ((c : Thread nD τ).loc main_arg0) : S16384x100x32.Idx → F .f32) i)
    ((m ((c : Thread nD τ).loc main_arg1) : S100x32.Idx → F .f32) (feature i))

/-- The line after the region lays `sumMat` out as the batch, which gives `embedded`. -/
theorem tail_result (c : Dev nD) :
    Pipeline.afterTail₀ cfgs (dats m) 0 (V0 m) [hostOps1] c main_v3 = embedded m c := by
  have e : Pipeline.afterTail₀ cfgs (dats m) 0 (V0 m) [hostOps1] c main_v3
      = shapeCast S16384x100x32 (sumMat m c : S16384x3200.Idx → F .f32) shapeCasts_S16384x3200_S16384x100x32 := by
    rw [← region_result]
    have hA := Pipeline.withArrays_arr spec0 winFacts0.arr_inj c (V0 m c) (fun w => (dats m 0 c).arrAt w cfg0.N) 2
    unfold Pipeline.afterTail₀
    simp only [List.flatten_cons, List.flatten_nil, List.append_nil]
    after_results
    exact congrArg (fun A : S16384x3200.Idx → F .f32 => shapeCast S16384x100x32 A shapeCasts_S16384x3200_S16384x100x32) hA
  rw [e]
  funext i
  rw [shapeCast_apply _ _ i (flat i) (by
    rw [Shape.rowMajor_val_three, Shape.rowMajor_val_two]
    show (i 0).val * 3200 + ((i 1).val * 32 + (i 2).val) = ((i 0).val * 100 + (i 1).val) * 32 + (i 2).val
    omega)]
  show FloatOps.addf (V m c main_v0 (flat i)) (V m c main_v1 (under (flat i))) = _
  rw [batch_matrix, table_row]
  rfl

/-- THE RUN: the kernel terminates with `embedded` in its result array and its arguments unchanged. -/
theorem run : θ_run defs (onTc (τ := τ) (main (F := F))) ⟨m, fun _ => 0, ρ⟩ fun r => ∀ c : Dev nD,
      r.2.mem ((c : Thread nD τ).loc main_v3) = embedded m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v3 (Pipeline.mem_restRefs_of main_v3 (by decide) (by decide))).trans (tail_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.TiledSum

end
-- ==== Proof.ReferenceValue.lean ====
/-
  What the reference computes, read at an index.

  Its look-up of every column index is `take` of the table at 0, 1, …, 99 in the form in which it lowers: an index below
  zero is moved up by the table's length, the rows are gathered, and a row whose index lies outside the table is
  replaced by a fill value. None of the hundred indices is negative or outside, so the look-up returns the table.
-/
module

public import proofs.«01_k».proof.Defs
public import proofs.«01_k».proof.Proof.Gen.ReferenceIdeal.Read
public import Idealize.ShloMosaic.Lib.ReduceAll

@[expose] public section

noncomputable section

namespace Cert.ReferenceIdeal.LookUp

open Cert.ReferenceIdeal Cert.ReferenceIdeal.Gen Cert.ReferenceIdeal.Read
open Idealize.ShloMosaic Idealize.ShloMosaic.TcCoe Idealize.SL.Sem

variable {F : FTy → Type} [FloatOps F]

/-- Row `r`'s index, below 100, is not negative: it is not moved. -/
theorem index_kept : ∀ r < 100, Scalar.select (IntOp.cmpi .slt (BitVec.ofNat 32 r) 0#32)
    (IntOp.addi (BitVec.ofNat 32 r) 100#32) (BitVec.ofNat 32 r) = BitVec.ofNat 32 r := by decide +kernel

/-- It is in the table. -/
theorem index_inside : ∀ r < 100, IntOp.andi (IntOp.cmpi .sge (BitVec.ofNat 32 r) 0#32)
    (IntOp.cmpi .sle (BitVec.ofNat 32 r) 99#32) = 1#1 := by decide +kernel

/-- Read as a signed integer and clamped into the table it is `r`. -/
theorem index_clamped : ∀ r < 100, min (BitVec.ofNat 32 r).toInt.toNat (100 - 1) = r := by decide +kernel

/-- The index of each row that the gather reads is the row's own number. -/
theorem start_apply (i : S100x1.Idx) : val_main_call0_v5 (F := F) i = BitVec.ofNat 32 (i 0).val := by
  rw [val_main_call0_v5_apply, val_main_call0_v4_apply, val_main_call0_v1_apply, val_main_call0_v3_apply,
    val_main_call0_v0_apply, val_main_call0_v2_apply, val_main_call0_c_apply, val_main_call0_c_0_apply, val_main_v0_apply]
  exact index_kept _ (i 0).isLt

/-- Every row is found to be inside the table. -/
theorem inside (j : S100.Idx) : val_main_call0_v12 (F := F) j = 1#1 := by
  unfold val_main_call0_v12
  refine Host.reduce_andi_one _ _ _ _ j rfl fun i => ?_
  rw [val_main_call0_v11_apply, val_main_call0_v7_apply, val_main_call0_v10_apply, val_main_call0_v6_apply,
    val_main_call0_v9_apply, val_main_call0_v8_apply, val_main_call0_c_1_apply, val_main_call0_c_2_apply, start_apply]
  exact index_inside _ (i 0).isLt

/-- The gather returns the table. -/
theorem gathered (x : (⟨S100x32, .f32⟩ : BufTy).Contents (Elt F)) (i : S100x32.Idx) : val_main_call0_v13 (F := F) x i = x i := by
  unfold val_main_call0_v13 Host.gather
  refine congrArg x (funext fun a => Fin.ext ?_)
  show GatherDims.start _ i _ a + GatherDims.batchCoord _ i a + GatherDims.offCoord _ i a = (i a).val
  rw [GatherDims.batchCoord_eq_zero _ _ _ List.not_mem_nil, Nat.add_zero]
  have ha : a = 0 ∨ a = 1 := by
    match a with
    | ⟨0, _⟩ => exact .inl rfl
    | ⟨1, _⟩ => exact .inr rfl
  rcases ha with rfl | rfl
  · rw [GatherDims.offCoord_eq_zero _ _ _ fun h => ((GatherDims.mem_sKept _ _).mp h).1 (List.mem_singleton.mpr rfl),
      Nat.add_zero]
    unfold GatherDims.start
    rw [dif_pos (show (0 : Fin 2) ∈ gather_S100x32_S100x1_S100x32_1_0_n_n_0_1_132.startIndexMap from List.mem_singleton.mpr rfl),
      start_apply]
    exact index_clamped _ (i 0).isLt
  · unfold GatherDims.start GatherDims.offCoord
    rw [dif_neg (show (1 : Fin 2) ∉ gather_S100x32_S100x1_S100x32_1_0_n_n_0_1_132.startIndexMap by decide),
      dif_pos ((GatherDims.mem_sKept gather_S100x32_S100x1_S100x32_1_0_n_n_0_1_132 (1 : Fin 2)).mpr ⟨by decide, List.not_mem_nil⟩),
      Nat.zero_add]
    rfl

/-- So the look-up does: no row is replaced. -/
theorem taken (x : (⟨S100x32, .f32⟩ : BufTy).Contents (Elt F)) (i : S100x32.Idx) : val_main_v1 (F := F) x i = x i := by
  rw [val_main_v1_apply, val_main_call0_v14_apply, inside, gathered]
  rfl

/-- The reference's result at (b, f, d): the batch's element plus the table's element (f, d). -/
theorem result_apply (x : (⟨S16384x100x32, .f32⟩ : BufTy).Contents (Elt F)) (y : (⟨S100x32, .f32⟩ : BufTy).Contents (Elt F))
    (i : S16384x100x32.Idx) :
    val_main_v4 (F := F) x y i = FloatOps.addf (x i) (y (idx_main_v2 (idx_main_v3 i))) := by
  rw [val_main_v4_apply, val_main_v3_apply, val_main_v2_apply, taken]

end Cert.ReferenceIdeal.LookUp

end
-- ==== Proof.lean ====
/-
  The proof of `Cert.Claim`: the tiled kernel, its ideal program and the reference run to the end and leave their
  arguments and semaphores as they were; the ideal program is the kernel over the extended reals; and over the extended
  reals kernel and reference end with the same result array.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.KernelValue
public import proofs.«01_k».proof.Proof.ReferenceValue
public import Idealize.ShloMosaic.Lib.Quiescent

@[expose] public section

noncomputable section

namespace Cert.Proof

open Idealize.ShloMosaic Idealize.ShloMosaic.TcCoe Idealize.SL.Sem

/-- The kernel terminates without fault, its arguments and semaphore counters as they were. -/
theorem frame_kernel : Cert.quiescent_Kernel := fun m ρ _ => Cert.Kernel.Gen.frame m ρ

/-- So does its ideal program. -/
theorem frame_ideal : Cert.quiescent_KernelIdeal := fun m ρ _ => Cert.KernelIdeal.Gen.frame m ρ

/-- So does the reference, which has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Nothing was rewritten in the ideal program. -/
theorem preserved : Cert.preserves_Kernel_KernelIdeal := trivial

/-- Over the extended reals kernel and reference, run on the same arguments, end with the same result: at (b, f, d) the
    batch's element plus the table's element (f, d). -/
theorem same_result : Cert.algebraic_KernelIdeal_ReferenceIdeal := by
  intro m ρ m' ρ' _ hagree
  refine ⟨fun c => Cert.KernelIdeal.TiledSum.embedded m c, Cert.KernelIdeal.TiledSum.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v4_eq _ _).trans (funext fun i => ?_)
  exact (Cert.ReferenceIdeal.LookUp.result_apply _ _ i).trans rfl

/-- Everything that is claimed. -/
theorem claim : Cert.Claim :=
  ⟨Cert.Kernel.Gen.facts, Cert.KernelIdeal.Gen.facts, Cert.ReferenceIdeal.Gen.facts,
    frame_kernel, frame_ideal, frame_reference, preserved, same_result⟩

end Cert.Proof

end
